-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x512 : Shape := ⟨3, ![4, 256, 512]⟩
abbrev S4x256 : Shape := ⟨2, ![4, 256]⟩
abbrev S64x512 : Shape := ⟨2, ![64, 512]⟩
abbrev S4x64x256 : Shape := ⟨3, ![4, 64, 256]⟩
abbrev S4 : Shape := ⟨1, ![4]⟩
abbrev S64 : Shape := ⟨1, ![64]⟩
abbrev S64x1 : Shape := ⟨2, ![64, 1]⟩
abbrev S1x512 : Shape := ⟨2, ![1, 512]⟩
abbrev S1x256x512 : Shape := ⟨3, ![1, 256, 512]⟩
abbrev S256x512 : Shape := ⟨2, ![256, 512]⟩
abbrev S1x256 : Shape := ⟨2, ![1, 256]⟩
abbrev S64x256 : Shape := ⟨2, ![64, 256]⟩
abbrev S1x64x256 : Shape := ⟨3, ![1, 64, 256]⟩
abbrev S1 : Shape := ⟨1, ![1]⟩
abbrev S_ : Shape := ⟨0, ![]⟩
abbrev S4x256x64 : Shape := ⟨3, ![4, 256, 64]⟩

abbrev nBuf : Space → Nat
  | .hbm => 6
  | .vmem => 3
  | .smem => 0
  | _ => 0

abbrev bufTy : (tb : Table) → Fin (tcTables nBuf tb) → BufTy
  | .hbm, ⟨0, _⟩ => ⟨S4x256x512, .f32⟩
  | .hbm, ⟨1, _⟩ => ⟨S4x256, .i32⟩
  | .hbm, ⟨2, _⟩ => ⟨S64x512, .f32⟩
  | .hbm, ⟨3, _⟩ => ⟨S4x256x512, .bf16⟩
  | .hbm, ⟨4, _⟩ => ⟨S4x64x256, .f32⟩
  | .hbm, ⟨5, _⟩ => ⟨S4x256x64, .f32⟩
  | .local _ .vmem, ⟨0, _⟩ => ⟨S4x256x512, .bf16⟩
  | .local _ .vmem, ⟨1, _⟩ => ⟨S64x512, .f32⟩
  | .local _ .vmem, ⟨2, _⟩ => ⟨S4x64x256, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x256x512 : Shape := ⟨3, ![4, 256, 512]⟩
abbrev S4x256 : Shape := ⟨2, ![4, 256]⟩
abbrev S64x512 : Shape := ⟨2, ![64, 512]⟩
abbrev S_ : Shape := ⟨0, ![]⟩
abbrev S4x256x1 : Shape := ⟨3, ![4, 256, 1]⟩
abbrev S64 : Shape := ⟨1, ![64]⟩
abbrev S4x256x64 : Shape := ⟨3, ![4, 256, 64]⟩
abbrev S1x1x64 : Shape := ⟨3, ![1, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256, .i32⟩
  | .hbm, ⟨2, _⟩ => ⟨S64x512, .f32⟩
  | .hbm, ⟨3, _⟩ => ⟨S4x256x512, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S64x512, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S4x256x64, .f32⟩
  | .hbm, ⟨19, _⟩ => ⟨S1x1x64, .f32⟩
  | .hbm, ⟨20, _⟩ => ⟨S4x256x64, .f32⟩
  | .hbm, ⟨21, _⟩ => ⟨S4x256x64, .f32⟩
  | .hbm, ⟨22, _⟩ => ⟨S4x256x64, .f32⟩
  | .hbm, ⟨23, _⟩ => ⟨S4x256x64, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Landed.lean ====
/-
  A copy of one slab of a buffer into the same slab of another, and the rows a sequence of such copies leaves: facts
  of views alone, said once for every slab and for both programs.
-/
module

public import Idealize.ShloMosaic.Lib.Writes
public import Idealize.ShloMosaic.Lib.Pointwise.Index

@[expose] public section

namespace Cert.Landed

open Idealize.ShloMosaic

variable {sig sig' : RefSig} {κ κ' : Kind} {sp sp' : Space} {s : Shape} {e : EltTy} {Val : EltTy → Type}

/-- Reading a slab through its reshaped view at the index that stands for `x` is reading the slab at `x`. -/
theorem read_reshape_symm (w : View sig κ sp s e) {s' : Shape} (h : s'.numel = s.numel) (g : w.ty.Contents Val)
    (x : s.Idx) : (w.reshape s' h).read Val g ((Shape.reshapeEquiv h).symm x) = w.read Val g x := by
  rw [View.read_apply, View.read_apply]
  have e : (w.reshape s' h).emb ((Shape.reshapeEquiv h).symm x) = w.emb x := by simp
  grind

/-- A slab stored with `p` in the source buffer and then copied, reshaped at both ends, into the same slab of the target:
    the target's slab is written with `p`, whatever the source held elsewhere. -/
theorem write_landed (v : View sig κ sp s e) (w : View sig' κ' sp' s e) (r : Rect s) {s' : Shape}
    (h : s'.numel = r.shape.numel) (fo : v.ty.Contents Val) (fs : w.ty.Contents Val) (p : r.shape.Idx → Val e)
    (L : List (View.Piece Val s e)) :
    ((v.slice r).reshape s' h).write Val fo (((w.slice r).reshape s' h).read Val (w.writes Val fs (⟨r, p⟩ :: L))) Finset.univ
      = (v.slice r).write Val fo p Finset.univ := by
  rw [View.write_reshape_univ]
  congr 1
  funext x
  rw [read_reshape_symm]
  exact View.read_writes_cons_emb w fs r p L x

/-- Reading at a box is the read of the whole view at the box's indices. -/
theorem readAt_eq (v : View sig κ sp s e) (r : Rect s) (f : v.ty.Contents Val) :
    v.readAt Val r.toLoadRect f = fun j => v.read Val f (r.emb j) := rfl

/-- The index under `j` in the slab at row `b` of a rank-3 array: its first coordinate is `b`, the others are `j`'s. -/
theorem emb_slab {n0 n1 n2 : Nat} (b : Fin n0)
    (inb : ∀ a, (![b.val, 0, 0] : Fin 3 → Nat) a + (![1, n1, n2] : Fin 3 → Nat) a ≤ (⟨3, ![n0, n1, n2]⟩ : Shape).size a)
    (j : (⟨3, ![1, n1, n2]⟩ : Shape).Idx) :
    (Rect.unit (s := ⟨3, ![n0, n1, n2]⟩) ![b.val, 0, 0] ![1, n1, n2] inb).emb j = ix3 b (j 1) (j 2) := by
  have h0 : (j 0).val = 0 := Nat.lt_one_iff.mp (j 0).isLt
  funext a
  apply Fin.ext
  match a with
  | ⟨0, _⟩ => show (b : Nat) + 1 * (j 0).val = b; omega
  | ⟨1, _⟩ => show 0 + 1 * (j 1).val = (j 1).val; omega
  | ⟨2, _⟩ => show 0 + 1 * (j 2).val = (j 2).val; omega

/-- The index under `j` in the box that is the whole of a rank-2 array is `j`. -/
theorem emb_whole2 {n0 n1 : Nat}
    (inb : ∀ a, (![0, 0] : Fin 2 → Nat) a + (![n0, n1] : Fin 2 → Nat) a ≤ (⟨2, ![n0, n1]⟩ : Shape).size a)
    (j : (⟨2, ![n0, n1]⟩ : Shape).Idx) :
    (Rect.unit (s := ⟨2, ![n0, n1]⟩) ![0, 0] ![n0, n1] inb).emb j = j := by
  funext a
  apply Fin.ext
  match a with
  | ⟨0, _⟩ => show 0 + 1 * (j 0).val = (j 0).val; omega
  | ⟨1, _⟩ => show 0 + 1 * (j 1).val = (j 1).val; omega

end Cert.Landed

end
-- ==== Proof.KernelBlock.lean ====
/-
  What the kernel leaves in its result array, as a function of its two operands: batch row `b` is the block the body
  computes from the whole second operand and row `b` of the first.
-/
module

public import proofs.«01_k».proof.Proof.Gen.Kernel.Skeleton
public import proofs.«01_k».proof.Proof.Landed
public import Idealize.ShloMosaic.Lib.Tactic

@[expose] public section

set_option maxRecDepth 16384

noncomputable section

namespace Cert.Kernel

open Cert.Kernel.Gen Cert.Landed
open Idealize.ShloMosaic

variable {F : FTy → Type} [FloatOps F]

/-- Batch row `b` of the first operand, with its leading axis of one kept. -/
def xRow (x : Vec F S4x256x512 .bf16) (b : Fin 4) : Vec F S1x256x512 .bf16 := fun i => x (ix3 b (i 1) (i 2))

/-- The block of one batch row: the similarities of the 64 centres with the row's 256 vectors. -/
def block (ca : Vec F S64x512 .f32) (x : Vec F S4x256x512 .bf16) (b : Fin 4) : Vec F S1x64x256 .f32 :=
  k0_pay4 ca (xRow x b)

/-- The result array: row `b` holds the block of batch row `b`. -/
def outArr (ca : Vec F S64x512 .f32) (x : Vec F S4x256x512 .bf16) : Vec F S4x64x256 .f32 :=
  fun j => block ca x (j 0) (ix3 0 (j 1) (j 2))

/-- A load of slab `b` of the first operand reads batch row `b`. -/
theorem load_row {κ : Kind} {sp : Space} (v : View sig κ sp S4x256x512 .bf16) (f : v.ty.Contents (Elt F)) (b : Fin 4)
    (inb : ∀ a, (![b.val, 0, 0] : Fin 3 → Nat) a + S1x256x512.size a ≤ S4x256x512.size a) :
    v.readAt (Elt F) (Rect.unit (s := S4x256x512) ![b.val, 0, 0] S1x256x512.size inb).toLoadRect f
      = xRow (v.read (Elt F) f) b := by
  rw [readAt_eq]
  exact funext fun j => congrArg (v.read (Elt F) f) (emb_slab b inb j)

/-- A load of the whole second operand reads all of it. -/
theorem load_centres {κ : Kind} {sp : Space} (v : View sig κ sp S64x512 .f32) (f : v.ty.Contents (Elt F))
    (inb : ∀ a, (![0, 0] : Fin 2 → Nat) a + S64x512.size a ≤ S64x512.size a) :
    v.readAt (Elt F) (Rect.unit (s := S64x512) ![0, 0] S64x512.size inb).toLoadRect f = v.read (Elt F) f := by
  rw [readAt_eq]
  exact funext fun j => congrArg (v.read (Elt F) f) (emb_whole2 inb j)

section stored

variable {κ κ' : Kind} {sp sp' : Space} (v : View sig κ sp S64x512 .f32) (w : View sig κ' sp' S4x256x512 .bf16)
  (f : v.ty.Contents (Elt F)) (g : w.ty.Contents (Elt F))

/-- The second operand as the body loads it. -/
abbrev loadedCentres : Vec F S64x512 .f32 :=
  v.readAt (Elt F) (Rect.unit (s := S64x512) ![0, 0] S64x512.size inb_S64x512_S64x512_0_0).toLoadRect f
/-- A row of the first operand as the body loads it. -/
abbrev loadedRow (off : Fin 3 → Nat) (inb : ∀ a, off a + S1x256x512.size a ≤ S4x256x512.size a) : Vec F S1x256x512 .bf16 :=
  w.readAt (Elt F) (Rect.unit (s := S4x256x512) off S1x256x512.size inb).toLoadRect g

/-- The second operand as loaded is all of it. -/
theorem centres_loaded : loadedCentres v f = v.read (Elt F) f := load_centres v f _

/-- What the body stores in row 0 is the block of row 0. -/
theorem stored_zero :
    k0_pay4 (loadedCentres v f) (loadedRow w g ![0, 0, 0] inb_S4x256x512_S1x256x512_0_0_0)
      = block (v.read (Elt F) f) (w.read (Elt F) g) 0 := by
  rw [centres_loaded, show loadedRow w g ![0, 0, 0] inb_S4x256x512_S1x256x512_0_0_0 = xRow _ 0 from load_row w g 0 inb_S4x256x512_S1x256x512_0_0_0]; rfl

/-- What the body stores in row 1 is the block of row 1. -/
theorem stored_one :
    k0_pay5 (k0_pay1 (loadedCentres v f)) (k0_pay2 (loadedCentres v f)) k0_pay3
        (loadedRow w g ![1, 0, 0] inb_S4x256x512_S1x256x512_1_0_0)
      = block (v.read (Elt F) f) (w.read (Elt F) g) 1 := by
  rw [centres_loaded, show loadedRow w g ![1, 0, 0] inb_S4x256x512_S1x256x512_1_0_0 = xRow _ 1 from load_row w g 1 inb_S4x256x512_S1x256x512_1_0_0]; rfl

/-- What the body stores in row 2 is the block of row 2. -/
theorem stored_two :
    k0_pay9 (k0_pay7 k0_pay3 (loadedRow w g ![2, 0, 0] inb_S4x256x512_S1x256x512_2_0_0))
        (k0_pay8 (k0_pay1 (loadedCentres v f)) (k0_pay2 (loadedCentres v f))
          (loadedRow w g ![2, 0, 0] inb_S4x256x512_S1x256x512_2_0_0))
      = block (v.read (Elt F) f) (w.read (Elt F) g) 2 := by
  rw [centres_loaded, show loadedRow w g ![2, 0, 0] inb_S4x256x512_S1x256x512_2_0_0 = xRow _ 2 from load_row w g 2 inb_S4x256x512_S1x256x512_2_0_0]; rfl

/-- What the body stores in row 3 is the block of row 3. -/
theorem stored_three :
    k0_pay10 (k0_pay1 (loadedCentres v f)) (k0_pay2 (loadedCentres v f)) k0_pay3
        (loadedRow w g ![3, 0, 0] inb_S4x256x512_S1x256x512_3_0_0)
      = block (v.read (Elt F) f) (w.read (Elt F) g) 3 := by
  rw [centres_loaded, show loadedRow w g ![3, 0, 0] inb_S4x256x512_S1x256x512_3_0_0 = xRow _ 3 from load_row w g 3 inb_S4x256x512_S1x256x512_3_0_0]; rfl

end stored

/-- The rectangle of row `b` of the result array. -/
abbrev slab (b : Fin 4) (inb : ∀ a, (![b.val, 0, 0] : Fin 3 → Nat) a + S1x64x256.size a ≤ S4x64x256.size a) :
    Rect S4x64x256 := Rect.unit (s := S4x64x256) ![b.val, 0, 0] S1x64x256.size inb

/-- Under row `b`'s rectangle the result array holds the block of row `b`. -/
theorem outArr_slab (ca : Vec F S64x512 .f32) (x : Vec F S4x256x512 .bf16) (b : Fin 4)
    (inb : ∀ a, (![b.val, 0, 0] : Fin 3 → Nat) a + S1x64x256.size a ≤ S4x64x256.size a) (j : (slab b inb).shape.Idx) :
    block ca x b j = outArr ca x ((slab b inb).emb j) := by
  rw [show (slab b inb).emb j = ix3 b (j 1) (j 2) from emb_slab b inb j]
  show block ca x b j = block ca x b (ix3 0 (j 1) (j 2))
  congr 1
  funext a
  match a with
  | ⟨0, _⟩ => exact Subsingleton.elim (α := Fin 1) _ _
  | ⟨1, _⟩ => rfl
  | ⟨2, _⟩ => rfl

/-- The four rows written with the four blocks are the result array, whatever the buffer held before. -/
theorem rows_written {κ : Kind} {sp : Space} (v : View sig κ sp S4x64x256 .f32) (fo : v.ty.Contents (Elt F))
    (ca : Vec F S64x512 .f32) (x : Vec F S4x256x512 .bf16) :
    v.read (Elt F) (v.writes (Elt F) fo
      [⟨slab 3 inb_S4x64x256_S1x64x256_3_0_0, block ca x 3⟩, ⟨slab 2 inb_S4x64x256_S1x64x256_2_0_0, block ca x 2⟩,
        ⟨slab 1 inb_S4x64x256_S1x64x256_1_0_0, block ca x 1⟩, ⟨slab 0 inb_S4x64x256_S1x64x256_0_0_0, block ca x 0⟩])
      = outArr ca x := by
  funext y
  refine View.read_writes_apply_of_pieces v fo (outArr ca x) _ ?_ y ?_
  swap
  · exact View.cover_of_tiled (s := S4x64x256) _ ![1, 64, 256] (by sl_kernel_rfl) y
  intro p hp
  simp only [List.mem_cons, List.not_mem_nil, or_false] at hp
  rcases hp with rfl | rfl | rfl | rfl
  · exact outArr_slab ca x 3 inb_S4x64x256_S1x64x256_3_0_0
  · exact outArr_slab ca x 2 inb_S4x64x256_S1x64x256_2_0_0
  · exact outArr_slab ca x 1 inb_S4x64x256_S1x64x256_1_0_0
  · exact outArr_slab ca x 0 inb_S4x64x256_S1x64x256_0_0_0

end Cert.Kernel

end
-- ==== Proof.KernelRun.lean ====
/-
  The kernel's body, run once over its operands: the four blocks stored in the scratch, each copied into its row of the
  result left in HBM on a semaphore of its own, all four waited for. What the run leaves is the result array named in
  KernelBlock.lean, every counter at zero.
-/
module

public import proofs.«01_k».proof.Proof.Gen.Kernel.Launch
public import proofs.«01_k».proof.Proof.Gen.Kernel.Points
public import proofs.«01_k».proof.Proof.KernelBlock
public import Idealize.ShloMosaic.Lib.Pipeline.FrameBody
public import Idealize.ShloMosaic.Lib.Pipeline.FrameSuffixV
public import Idealize.ShloMosaic.Lib.Tactic

@[expose] public section

set_option maxRecDepth 16384

noncomputable section

namespace Cert.Kernel

open Cert.Kernel.Gen Cert.Landed
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The scratch the blocks are stored in. -/
abbrev scM : Memref sig .tc .vmem S4x64x256 .f32 := Memref.whole cc0_scratch0
/-- The result left in HBM. -/
abbrev outM : Memref sig .tc .hbm S4x64x256 .f32 := Memref.whole main_v1
/-- The contents a memref's buffer can have on core `c`. -/
abbrev BufOf (c : Dev nD) {sp : Space} {S : Shape} {e : EltTy} (M : Memref sig .tc sp S e) : Type :=
  Buf (Elt F) (M.view.loc (c : Thread nD τ))
/-- A memref's buffer held whole at `f`. -/
abbrev pt (c : Dev nD) {sp : Space} {S : Shape} {e : EltTy} (M : Memref sig .tc sp S e) (f : BufOf (F := F) c M) : sProp 𝕄 :=
  M.view.loc (c : Thread nD τ) ↦{fullShare} f

/-- A buffer held at `f` is held at any `g` that is `f`. -/
theorem pt_of_eq (c : Dev nD) {sp : Space} {S : Shape} {e : EltTy} (M : Memref sig .tc sp S e) {f g : BufOf (F := F) c M}
    (h : f = g) : pt c M f ⊢ pt c M g := by rw [h]

/-- Row `r` of a four-row buffer, as the copies name it. -/
abbrev rowOf {sp : Space} (M : Memref sig .tc sp S4x64x256 .f32) (off : Fin 3 → ℕ)
    (inb : ∀ a, off a + S1x64x256.size a ≤ S4x64x256.size a) : Memref sig .tc sp S64x256 .f32 :=
  (M.slice (Rect.unit (s := S4x64x256) off S1x64x256.size inb) (fun _ => rfl)).squeeze S64x256 squeezes_S1x64x256_S64x256

/-- What a copy reads of a row of the scratch when the row was the last one stored, with `p`. -/
abbrev rowRead (c : Dev nD) (off : Fin 3 → ℕ) (inb : ∀ a, off a + S1x64x256.size a ≤ S4x64x256.size a)
    (fs : BufOf (F := F) c scM) (p : Vec F S1x64x256 .f32) (L : List (View.Piece (Elt F) S4x64x256 .f32)) :
    S64x256.Idx → Elt F .f32 :=
  ReadAs.same.apply (View.read (Elt F) (rowOf scM off inb).view
    (scM.view.writes (Elt F) fs (⟨Rect.unit (s := S4x64x256) off S1x64x256.size inb, p⟩ :: L)))

/-- A row stored with `p` in the scratch and copied into the same row of the result: the result's row is written with `p`. -/
theorem row_landed (c : Dev nD) (off : Fin 3 → ℕ) (inb : ∀ a, off a + S1x64x256.size a ≤ S4x64x256.size a)
    (fo : BufOf (F := F) c outM) (fs : BufOf (F := F) c scM) (p : Vec F S1x64x256 .f32)
    (L : List (View.Piece (Elt F) S4x64x256 .f32)) :
    View.write (Elt F) (rowOf outM off inb).view fo
        (rowRead c off inb fs p L) Finset.univ
      = (outM.view.slice (Rect.unit (s := S4x64x256) off S1x64x256.size inb)).write (Elt F) fo p Finset.univ :=
  write_landed outM.view scM.view (Rect.unit (s := S4x64x256) off S1x64x256.size inb) _ fo fs p L

/-- The four copies together: with the four blocks stored one after the other and each copied out of the scratch as it
    stood then, the result is the array of the blocks. -/
theorem result_landed (c : Dev nD) (fo : BufOf (F := F) c outM) (fs : BufOf (F := F) c scM) (ca : Vec F S64x512 .f32)
    (x : Vec F S4x256x512 .bf16) (p0 p1 p2 p3 : Vec F S1x64x256 .f32)
    (h0 : p0 = block ca x 0) (h1 : p1 = block ca x 1) (h2 : p2 = block ca x 2) (h3 : p3 = block ca x 3)
    (L0 L1 L2 L3 : List (View.Piece (Elt F) S4x64x256 .f32)) :
    View.write (Elt F) (rowOf outM ![3, 0, 0] inb_S4x64x256_S1x64x256_3_0_0).view
      (View.write (Elt F) (rowOf outM ![2, 0, 0] inb_S4x64x256_S1x64x256_2_0_0).view
        (View.write (Elt F) (rowOf outM ![1, 0, 0] inb_S4x64x256_S1x64x256_1_0_0).view
          (View.write (Elt F) (rowOf outM ![0, 0, 0] inb_S4x64x256_S1x64x256_0_0_0).view fo
            (rowRead c ![0, 0, 0] inb_S4x64x256_S1x64x256_0_0_0 fs p0 L0) Finset.univ)
          (rowRead c ![1, 0, 0] inb_S4x64x256_S1x64x256_1_0_0 fs p1 L1) Finset.univ)
        (rowRead c ![2, 0, 0] inb_S4x64x256_S1x64x256_2_0_0 fs p2 L2) Finset.univ)
      (rowRead c ![3, 0, 0] inb_S4x64x256_S1x64x256_3_0_0 fs p3 L3) Finset.univ
      = outArr ca x := by
  subst h0 h1 h2 h3
  rw [row_landed, row_landed, row_landed, row_landed]
  exact rows_written outM.view fo ca x

set_option sl_exec.dmaWindow true in
/-- The body, from its two operands, the result and the scratch held whole at anything, the four semaphores at zero:
    it returns the operands as they were, the result at the array of the four blocks, the scratch at some contents, the
    semaphores at zero. -/
theorem body_run (c : Dev nD) (arg0 : Memref sig .tc .vmem S4x256x512 .bf16) (harg0 : arg0.IsWhole)
    (arg1 : Memref sig .tc .vmem S64x512 .f32) (harg1 : arg1.IsWhole)
    (fx : BufOf (F := F) c arg0) (fca : BufOf (F := F) c arg1) (fo : BufOf (F := F) c outM) (fs : BufOf (F := F) c scM)
    (W : Waits sig Unit) (K : PUnit → sProp 𝕄) :
    iprop((arg0.view.loc (c : Thread nD τ) ↦[arg0.view.set]{fullShare} fx)
        ∗ (arg1.view.loc (c : Thread nD τ) ↦[arg1.view.set]{fullShare} fca)
        ∗ pt c outM fo ∗ pt c scM fs
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ owes (c : Thread nD τ) 0 W
        ∗ (iprop((arg0.view.loc (c : Thread nD τ) ↦[arg0.view.set]{fullShare} fx)
            ∗ (arg1.view.loc (c : Thread nD τ) ↦[arg1.view.set]{fullShare} fca)
            ∗ pt c outM (outArr (arg1.view.read (Elt F) fca) (arg0.view.read (Elt F) fx)) ∗ (∃ f, pt c scM f)
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ (∃ W', owes (c : Thread nD τ) 0 W')) -∗ K ⟨⟩))
      ⊢ wp frame (wpE (defs₀ (F := F)) Variants.none c none) Set.univ
          (cc0__simrel_kernel arg0 harg0 arg1 harg1 outM (Memref.isWhole_whole _) scM (Memref.isWhole_whole _) cc0_scratch1) K := by
  simp only [cc0__simrel_kernel_eq_skeleton]; unfold cc0__simrel_kernel_skel
  iintro ⟨H0, H1, Ho, Hs, Hq0, Hq1, Hq2, Hq3, HW, Hk⟩
  sl_exec
  sl_step
  iapply Hk
  isplitl [H0]; · iexact H0
  isplitl [H1]; · iexact H1
  isplitl [Ho]
  · iapply (pt_of_eq c outM ?_) $$ Ho
    rotate_left
    exact result_landed c fo fs _ _ _ _ _ _
      (stored_zero arg1.view arg0.view fca fx) (stored_one arg1.view arg0.view fca fx)
      (stored_two arg1.view arg0.view fca fx) (stored_three arg1.view arg0.view fca fx)
      _ _ _ _
  isplitl [Hs]; · iexists _; iexact Hs
  isplitl [Hq0]; · iexact Hq0
  isplitl [Hq1]; · iexact Hq1
  isplitl [Hq2]; · iexact Hq2
  isplitl [Hq3]; · iexact Hq3
  iexists _; iexact HW

end Cert.Kernel

end
-- ==== Proof.KernelLaunch.lean ====
/-
  The whole program run from any launch contents: the host's cast, the kernel on its one grid point, the host's
  transpose. Afterwards the three arguments are as launched, the result is the transposed array of the four blocks, and
  every semaphore counter is zero.
-/
module

public import proofs.«01_k».proof.Proof.Gen.Kernel.Frame
public import proofs.«01_k».proof.Proof.KernelRun

@[expose] public section

set_option maxRecDepth 16384

noncomputable section

namespace Cert.Kernel

open Cert.Kernel.Gen Cert.Landed
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program up to the kernel and from it on, for the algebra that counts the kernel's own copies. -/
theorem main_around (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## What the kernel holds besides its staged operands -/

/-- The four semaphores of the copies out. -/
abbrev osem0 : Fin 4 → SemLoc sig := fun j => (![SemLoc.dma 2, SemLoc.dma 3, SemLoc.dma 4, SemLoc.dma 5] : Fin 4 → SemLoc sig) j
/-- They are cells of the kernel's own, no staging cell. -/
theorem osem0_facts : Pipeline.OwnSemFacts spec0 osem0 := by decide
/-- The four counters at zero, one by one. -/
theorem osem0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0) := by
  rw [Pipeline.ownSems0_eq_of_list c osem0 [0, 1, 2, 3] (by decide) (by decide)]; rfl

/-- The buffer the kernel writes itself: the result left in HBM. -/
def R0 : Finset (Ref sig .tc) := {main_v1}
/-- That buffer is none the operands are staged from. -/
theorem R0_sub : R0 ⊆ Pipeline.restRefs sig spec0 \ ∅ := by decide

/-- The result array the kernel leaves, from the operands as it finds them. -/
def resArr (c : Dev nD) : Buf (Elt F) ((c : Thread nD τ).loc main_v1) :=
  outArr (iblk m c 1 t0_0) (iblk m c 0 t0_0)

/-- The buffers' contents after the kernel: the result at its array, all others as found. -/
def G (c : Dev nD) (b : Ref sig .tc) : Buf (Elt F) ((c : Thread nD τ).loc b) :=
  Function.update (fun b => V m c b) main_v1 (resArr m c) b
/-- After the kernel the result's array holds the result. -/
theorem G_result (c : Dev nD) : G m c main_v1 = resArr m c := by
  unfold G; rw [Function.update_self]

/-- The invariant at result contents `g`, spelt out: the scratch at anything, the counters at zero, the result at `g`. -/
theorem inv_eq (c : Dev nD) (g : (c : Dev nD) → (b : Ref sig .tc) → Buf (Elt F) ((c : Thread nD τ).loc b)) :
    (Pipeline.ΦDRV osem0 spec0 ∅ R0 (V m) g c : sProp 𝕄)
      = iprop((∃ f, pt c scM f)
          ∗ iprop(semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0)
          ∗ emp ∗ pt c outM (g c main_v1)) := by
  unfold Pipeline.ΦDRV
  rw [scopedRest0_eq, osem0_eq, BI.bigSep_empty, R0, BI.bigSep_singleton]; rfl

/-- The invariant before point `k`: the result as found before the one point, at its array after it. -/
def inv (c : Dev nD) (k : Fin (cfg0.N + 1)) : sProp 𝕄 :=
  Pipeline.ΦDRV osem0 spec0 ∅ R0 (V m) (if k = 0 then V m else G m) c

/-- The proof data of the one pipeline: the operands as the kernel finds them and left in place, the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ k := inv m c k
  q _ := fullShare
  owed _ := 0

/-- The staged arrays start as the kernel finds them. -/
theorem dats_A (c : Dev nD) (w : Fin cfg0.W) : (dats m 0 c).A w = V m c (Pipeline.arrRef spec0 w) := by dsimp only [dats]
/-- The body leaves the first operand's block in its staging buffer. -/
theorem dats_after_x (c : Dev nD) (t : Fin cfg0.N) : (dats m 0 c).after 0 t = iblk m c 0 t := by dsimp only [dats]
/-- The body leaves the second operand's block in its staging buffer. -/
theorem dats_after_ca (c : Dev nD) (t : Fin cfg0.N) : (dats m 0 c).after 1 t = iblk m c 1 t := by dsimp only [dats]

/-- The first operand's staging buffer holds its block when the body starts. -/
theorem before_x (c : Dev nD) (t : Fin cfg0.N) (d) : (dats m 0 c).before 0 t d = iblk m c 0 t :=
  ((dats m 0 c).before_in_eq_fetched 0 rfl (fun _ => rfl) (fun _ _ _ => rfl)
    (fun t => by rw [dats_after_x]; unfold Dat.blockOf iblk; rw [dats_A]; try rfl) t d).trans
    (by unfold Dat.fetched Dat.blockOf iblk; rw [dats_A]; try rfl)
/-- The second operand's staging buffer holds its block when the body starts. -/
theorem before_ca (c : Dev nD) (t : Fin cfg0.N) (d) : (dats m 0 c).before 1 t d = iblk m c 1 t :=
  ((dats m 0 c).before_in_eq_fetched 1 rfl (fun _ => rfl) (fun _ _ _ => rfl)
    (fun t => by rw [dats_after_ca]; unfold Dat.blockOf iblk; rw [dats_A]; try rfl) t d).trans
    (by unfold Dat.fetched Dat.blockOf iblk; rw [dats_A]; try rfl)

/-! ## The body obligation -/

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at its point meets its obligation. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before_x, before_ca, dats_after_x, dats_after_ca]
  rw [show (dats m 0 c).Φ (Fin.castSucc (n := cfg0.N) t0_0) = Pipeline.ΦDRV osem0 spec0 ∅ R0 (V m) (V m) c from rfl,
    show (dats m 0 c).Φ (Fin.succ (n := cfg0.N) t0_0) = Pipeline.ΦDRV osem0 spec0 ∅ R0 (V m) (G m) c from rfl, inv_eq, inv_eq, G_result]
  unfold Dat.owesAt Pipeline.owesWithin
  rw [show (dats m 0 c).owed (Fin.castSucc (n := cfg0.N) t0_0) = 0 from rfl, show (dats m 0 c).owed (Fin.succ (n := cfg0.N) t0_0) = 0 from rfl]
  unfold owns
  iintro ⟨⟨⟨%fs, Hs⟩, ⟨Hq0, Hq1, Hq2, Hq3⟩, He, Ho⟩, ⟨%W, -, HW⟩, ⟨%d0, %f0, %h0, H0⟩, ⟨%d1, %f1, %h1, H1⟩⟩
  iapply (body_run c (st0_0 t0_0) (hstage0_0 0) (st0_1 t0_0) (hstage0_1 0) f0 f1 (V m c main_v1) fs W _)
  isplitl [H0]; · iexact H0
  isplitl [H1]; · iexact H1
  isplitl [Ho]; · iexact Ho
  isplitl [Hs]; · iexact Hs
  isplitl [Hq0]; · iexact Hq0
  isplitl [Hq1]; · iexact Hq1
  isplitl [Hq2]; · iexact Hq2
  isplitl [Hq3]; · iexact Hq3
  isplitl [HW]; · iexact HW
  iintro ⟨H0, H1, Ho, ⟨%fs', Hs⟩, Hq0, Hq1, Hq2, Hq3, ⟨%W', HW'⟩⟩
  isplitl [Hs Hq0 Hq1 Hq2 Hq3 Ho He]
  · isplitl [Hs]; · iexists fs'; iexact Hs
    isplitl [Hq0 Hq1 Hq2 Hq3]
    · isplitl [Hq0]; · iexact Hq0
      isplitl [Hq1]; · iexact Hq1
      isplitl [Hq2]; · iexact Hq2
      iexact Hq3
    isplitl [He]; · iexact He
    iapply (pt_of_eq c outM ?_) $$ Ho
    rotate_left
    exact congrArg₂ outArr h1 h0
  isplitl [HW']
  · iexists W'; isplitr; · ipureintro; exact fun _ _ => Or.inl trivial
    iexact HW'
  isplitl [H0]
  · iexists f0; isplitr; · ipureintro; exact h0
    iexact H0
  iexists f1; isplitr; · ipureintro; exact h1
  iexact H1

/-- What the pipeline calls at point `t` is the printed body there. -/
theorem body_row (t : Fin cfg0.N) :
    defs₀ (F := F) .tc cfg0.body (cfg0.bodyArgs t (cfg0.slots t)) = bodyAt0 t := by
  unfold defs₀; rw [Defs.onTc_tc]

/-- The obligation the pipeline's launch asks of the body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

/-- A core's buffers once the kernel has run: the written result at its array, the staged arrays as they ended. -/
abbrev afterKernel (c : Dev nD) : Valuation τ sig (Elt F) :=
  Pipeline.withArrays spec0 c (Pipeline.withR (V0 m c) R0 c (G m c)) fun w => (dats m 0 c).arrAt w cfg0.N

set_option backward.isDefEq.respectTransparency.types false in
/-- Every execution ends with the staged arrays as their data say, every other buffer as the host's last line leaves it
    from the kernel's results, and all counters at zero. -/
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after [hostOps1].flatten (afterKernel m c) (Proc.devRef .tc b))
    ∧ r.2.sem = fun _ => 0) :=
  Pipeline.θ_run_frame_dmaR_aroundV (Q' := _) cfgs (dats m) (0 : Fin 1) launch0 osem0 defs₀ Variants.none osem0_facts ∅ R0
    (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := main_around m Variants.none) (hA := dats_A m)
    (hin := fun _ => .rfl) (hout := fun _ => .rfl) (hQ' := fun _ h => h)

/-! ## What a caller reads -/

/-- The first argument cast to bf16, as the host's first line stores it. -/
abbrev castX (c : Dev nD) : FVec F S4x256x512 .bf16 :=
  truncf .bf16 (m ((c : Thread nD τ).loc main_arg0) : FVec F S4x256x512 .f32) bitsLt_bf16_f32

/-- The kernel finds the cast argument in its first operand's array. -/
theorem entry_x (c : Dev nD) : V m c main_v0 = castX m c := by
  show StableHlo.after hostOps0 (fun b => m (c, b)) (Proc.devRef .tc main_v0) = _
  after_results

/-- The first operand's one block is the whole of its array. -/
theorem block_x (c : Dev nD) : iblk m c 0 t0_0 = castX m c := by
  rw [← entry_x m c]
  exact funext fun j => congrArg (V m c main_v0) (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega))

/-- The second operand's one block is the whole of its array, the third argument. -/
theorem block_ca (c : Dev nD) : iblk m c 1 t0_0 = m ((c : Thread nD τ).loc main_arg2) := by
  rw [← V_main_arg2 m c]
  exact funext fun j => congrArg (V m c main_arg2) (funext fun a => Fin.ext (by
    match a with
    | ⟨0, _⟩ => show 0 + 1 * (j 0).val = (j 0).val; omega
    | ⟨1, _⟩ => show 0 + 1 * (j 1).val = (j 1).val; omega))

/-- The result as the host leaves it: the array of the blocks, its last two axes exchanged. -/
def result (c : Dev nD) : FVec F S4x256x64 .f32 :=
  transpose S4x256x64 [0, 2, 1] (outArr (m ((c : Thread nD τ).loc main_arg2)) (castX m c))
    transposes_S4x64x256_S4x256x64_0_2_1

/-- The kernel's result array over the arguments. -/
theorem resArr_eq (c : Dev nD) : resArr m c = outArr (m ((c : Thread nD τ).loc main_arg2)) (castX m c) :=
  congrArg₂ outArr (block_ca m c) (block_x m c)

/-- Past the kernel its result array holds the blocks. -/
theorem afterKernel_result (c : Dev nD) :
    afterKernel m c (Proc.devRef .tc main_v1) = outArr (m ((c : Thread nD τ).loc main_arg2)) (castX m c) :=
  (Pipeline.withArrays_of_ne spec0 c _ _ main_v1 (by decide)).trans
    ((Pipeline.withR_of_mem (V0 m c) R0 c (G m c) main_v1 (by decide)).trans ((G_result m c).trans (resArr_eq m c)))

/-- A buffer the kernel neither stages nor writes holds past it what it held before. -/
theorem afterKernel_kept (c : Dev nD) (b : Ref sig .tc) (hw : ∀ w, (Pipeline.arrRef spec0 w) ≠ b) (hb : b ∉ R0) :
    afterKernel m c (Proc.devRef .tc b) = V m c b :=
  (Pipeline.withArrays_of_ne spec0 c _ _ b hw).trans (Pipeline.withR_of_not_mem (V0 m c) R0 c (G m c) b hb)

/-- The host's last line leaves the transposed array in the result. -/
theorem after_result (c : Dev nD) :
    StableHlo.after [hostOps1].flatten (afterKernel m c) (Proc.devRef .tc main_v2) = result m c := by
  unfold result
  rw [← afterKernel_result]
  generalize afterKernel m c = W
  show StableHlo.after hostOps1 W (Proc.devRef .tc main_v2) = _
  after_results

/-- The host's last line leaves every buffer but the result alone. -/
theorem after_kept (c : Dev nD) (b : Ref sig .tc) (hv : b ≠ main_v2) (hw : ∀ w, (Pipeline.arrRef spec0 w) ≠ b) (hb : b ∉ R0) :
    StableHlo.after [hostOps1].flatten (afterKernel m c) (Proc.devRef .tc b) = V m c b :=
  (StableHlo.after_of_forall_not_mem (b := Proc.devRef .tc b) _ _ (List.forall_iff_forall_mem.mp (by
    simp only [hostOps1, List.flatten_cons, List.flatten_nil, List.append_nil, List.cons_append, List.Forall,
      StableHlo.unary_writes, Finset.mem_singleton]
    exact StableHlo.devRef_ne_of_ne hv))).trans (afterKernel_kept m c b hw hb)

/-- Every execution ends with the result named above, the three arguments as launched, and all counters at zero. -/
theorem run_value : θ_run defs (onTc (τ := τ) (main (F := F))) ⟨m, fun _ => 0, ρ⟩ (fun r =>
    (∀ c : Dev nD, r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c =>
    ⟨((h.1 c).2 main_v2 (Pipeline.mem_restRefs_of main_v2 (by decide) (by decide))).trans (after_result m c),
      ((h.1 c).2 main_arg0 (Pipeline.mem_restRefs_of main_arg0 (by decide) (by decide))).trans
        ((after_kept m c main_arg0 (by decide) (by decide) (by decide)).trans (V_main_arg0 m c)),
      ((h.1 c).2 main_arg1 (Pipeline.mem_restRefs_of main_arg1 (by decide) (by decide))).trans
        ((after_kept m c main_arg1 (by decide) (by decide) (by decide)).trans (V_main_arg1 m c)),
      ((h.1 c).1 1).trans (((dats m 0 c).arrAt_in 1 rfl _).trans ((dats_A m c 1).trans (V_main_arg2 m c)))⟩, h.2⟩)
    (run_main m ρ)

end Cert.Kernel

end
-- ==== Proof.KernelIdealRun.lean ====
/-
  The kernel printed for reading over the extended reals is the same program as the kernel printed for its own floats: the
  same tables of bodies and the same host program. So the run proved once, for any floats, is its run too.
-/
module

public import proofs.«01_k».proof.Proof.KernelLaunch
public import proofs.«01_k».proof.Proof.Gen.KernelIdeal
public import Idealize.ShloMosaic.Lib.Tactic

@[expose] public section

set_option maxRecDepth 16384

noncomputable section

namespace Cert.KernelIdeal

open Cert.KernelIdeal.Gen Idealize.ShloMosaic Idealize.SL.Sem

variable {F : FTy → Type} [FloatOps F]

/-- The two programs' tables of bodies are one. -/
theorem defs_eq : Cert.KernelIdeal.defs (F := F) = Cert.Kernel.defs (F := F) := by sl_kernel_rfl

/-- The two host programs are one. -/
theorem main_eq : Cert.KernelIdeal.main (F := F) = Cert.Kernel.main (F := F) := rfl

/-- Every execution ends with the kernel's result, the three arguments as launched, and all counters at zero. -/
theorem run_value (m : (ℓ : Loc nD τ sig) → Buf (Elt F) ℓ) (ρ : Dev nD → PrngReg) :
    θ_run defs (onTc (τ := τ) (main (F := F))) ⟨m, fun _ => 0, ρ⟩ (fun r =>
    (∀ c : Dev nD, r.2.mem ((c.tc : Thread nD τ).loc main_v2) = Cert.Kernel.result (F := F) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  rw [defs_eq, main_eq]
  exact Cert.Kernel.run_value m ρ

end Cert.KernelIdeal

end
-- ==== Proof.Similarity.lean ====
/-
  The one equation of real numbers (with infinities) that the proof needs: an inner product scaled by the reciprocals of
  two lengths is the inner product divided by the product of the lengths. No length is below `eps`, which is positive,
  so no division is by zero, and the equation holds for every two vectors, infinite entries included.
-/
module

public import Idealize.ShloMosaic.PureOps
public import Idealize.ShloMosaic.Lib.Pointwise

@[expose] public section

noncomputable section

namespace Cert.Similarity

open Idealize.ShloMosaic

/-- The least length that either program divides by: the number that the f32 word for `1e-8` denotes. -/
def eps : EReal := Ideal.ofBits .f32 0x322BCC77#32

/-- That number is positive. -/
theorem eps_pos : 0 < eps := by
  unfold eps
  simp [Ideal.ofBits, Ideal.ieee, -EReal.coe_mul]

/-- The length of a vector, raised to `eps` where it is less. -/
def len (u : Fin 512 → EReal) : EReal := max (Ideal.sqrt (∑ d, u d * u d)) eps

/-- A length is not zero. -/
theorem len_ne_zero (u : Fin 512 → EReal) : len u ≠ 0 := (lt_max_of_lt_right eps_pos).ne'

/-- The similarity of two vectors: their inner product divided by the product of their lengths. -/
def sim (u v : Fin 512 → EReal) : EReal := Ideal.div (∑ d, u d * v d) (len u * len v)

/-- Scaling the inner product by the reciprocal of each length gives the similarity. -/
theorem scaled_eq_sim (u v : Fin 512 → EReal) :
    (∑ d, v d * u d) * Ideal.div 1 (len v) * Ideal.div 1 (len u) = sim u v := by
  have hs : (∑ d, v d * u d) = ∑ d, u d * v d := Finset.sum_congr rfl fun d _ => mul_comm _ _
  rw [sim, Ideal.div, Ideal.div, Ideal.div, if_neg (len_ne_zero v), if_neg (len_ne_zero u),
    if_neg (mul_ne_zero (len_ne_zero u) (len_ne_zero v)), hs, one_mul, one_mul, EReal.mul_inv, mul_assoc,
    mul_comm (len v)⁻¹]

end Cert.Similarity

end
-- ==== Proof.KernelValue.lean ====
/-
  What the kernel's result array holds, read over the extended reals: entry `(b, s, k)` of the transposed array is the
  similarity of vector `s` of batch row `b` with centre `k`.
-/
module

public import proofs.«01_k».proof.Proof.KernelBlock
public import proofs.«01_k».proof.Proof.Similarity

@[expose] public section

set_option maxRecDepth 16384

noncomputable section

namespace Cert.Kernel

open Cert.Kernel.Gen Cert.Similarity Idealize.ShloMosaic

/-- Entry `(k, s)` of the block of batch row `b` is the similarity of vector `s` of that row with centre `k`. -/
theorem block_apply (ca : Vec Ideal S64x512 .f32) (x : Vec Ideal S4x256x512 .bf16) (b : Fin 4) (k : Fin 64) (s : Fin 256) :
    block ca x b (ix3 0 k s) = sim (fun d => x (ix3 b s d)) (fun d => ca (ix2 k d)) := by
  rw [← scaled_eq_sim]
  pointwise [block, xRow, k0_pay4, k0_pay1, k0_pay2, k0_pay3]
  rfl

/-- Entry `(b, s, k)` of the transposed result, from the vectors before their cast: the cast changes no number here. -/
theorem transposed_apply (ca : Vec Ideal S64x512 .f32) (x : FVec Ideal S4x256x512 .f32) (b : Fin 4) (s : Fin 256) (k : Fin 64) :
    transpose S4x256x64 [0, 2, 1] (outArr ca (truncf .bf16 x bitsLt_bf16_f32)) transposes_S4x64x256_S4x256x64_0_2_1 (ix3 b s k)
      = sim (fun d => x (ix3 b s d)) (fun d => ca (ix2 k d)) := by
  rw [show transpose S4x256x64 [0, 2, 1] (outArr ca (truncf .bf16 x bitsLt_bf16_f32)) transposes_S4x64x256_S4x256x64_0_2_1 (ix3 b s k)
    = outArr ca (truncf .bf16 x bitsLt_bf16_f32) (ix3 b k s) by pointwise]
  exact block_apply ca _ b k s

end Cert.Kernel

end
-- ==== Proof.ReferenceValue.lean ====
/-
  The reference run from any launch contents, and what its result holds over the extended reals: entry `(b, s, k)` is the
  similarity of vector `s` of batch row `b` with centre `k`.
-/
module

public import proofs.«01_k».proof.Proof.Gen.ReferenceIdeal.Run
public import proofs.«01_k».proof.Proof.Similarity

@[expose] public section

set_option maxRecDepth 16384

noncomputable section

namespace Cert.ReferenceIdeal

open Cert.ReferenceIdeal.Gen Cert.Similarity Idealize.ShloMosaic Idealize.SL.Sem

/-- The similarities as the reference composes them from its operations, over the vectors `x` and the centres `ca`. -/
def simsArr (x : FVec Ideal S4x256x512 .f32) (ca : FVec Ideal S64x512 .f32) : FVec Ideal S4x256x64 .f32 :=
  Host.divf (Host.dotGeneral dot_S4x256x512_S64x512_S4x256x64_2_1_01_0_n_n none x ca)
    (mulf
      (broadcastInDim S4x256x64 ![0, 1, 2] bcast_S4x256x1_S4x256x64_0_1_2
        (maximumf
          (Host.sqrt (broadcastInDim S4x256x1 ![0, 1] bcast_S4x256_S4x256x1_0_1
            (Host.reduceAdd (mulf x x) (constant S_ .f32 0x00000000#32) reducesTo_S4x256x512_S4x256_d2 h_S_)))
          (broadcastInDim S4x256x1 ![] bcast_S_S4x256x1 (constant S_ .f32 0x322BCC77#32))))
      (broadcastInDim S4x256x64 ![0, 1, 2] bcast_S1x1x64_S4x256x64_0_1_2
        (shapeCast _
          (maximumf
            (Host.sqrt (Host.reduceAdd (mulf ca ca) (constant S_ .f32 0x00000000#32) reducesTo_S64x512_S64_d1 h_S_))
            (broadcastInDim S64 ![] bcast_S_S64 (constant S_ .f32 0x322BCC77#32)))
          shapeCasts_S64_S1x1x64)))

/-- Entry `(b, s, k)` of them is the similarity of vector `s` of batch row `b` with centre `k`. -/
theorem simsArr_apply (x : FVec Ideal S4x256x512 .f32) (ca : FVec Ideal S64x512 .f32) (b : Fin 4) (s : Fin 256) (k : Fin 64) :
    simsArr x ca (ix3 b s k) = sim (fun d => x (ix3 b s d)) (fun d => ca (ix2 k d)) := by
  pointwise [simsArr]
  rfl

/-- Every execution ends with those similarities in the result, the three arguments as launched, and all counters at
    zero (the program has none). -/
theorem run_value (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v11)
          = simsArr (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨h, funext fun g => by rcases g with ⟨t, s | s⟩ <;> exact s.elim0⟩) (Value.run m ρ)

end Cert.ReferenceIdeal

end
-- ==== Proof.Equation.lean ====
/-
  The equation between the two programs: over the extended reals and over equal arguments, the array the kernel's host
  program leaves is the array the reference leaves.
-/
module

public import proofs.«01_k».proof.Proof.KernelValue
public import proofs.«01_k».proof.Proof.KernelLaunch
public import proofs.«01_k».proof.Proof.ReferenceValue

@[expose] public section

noncomputable section

namespace Cert.Equation

open Idealize.ShloMosaic Cert.Kernel

/-- The two results are one array: at every entry, the similarity of one vector with one centre. -/
theorem result_eq (m : (ℓ : Loc nD τ sig) → Buf (Elt Ideal) ℓ) (c : Dev nD) :
    result (F := Ideal) m c
      = Cert.ReferenceIdeal.simsArr (m ((c.tc : Thread nD τ).loc main_arg0)) (m ((c.tc : Thread nD τ).loc main_arg2)) := by
  funext j
  idx_vars j
  exact (transposed_apply _ _ j0 j1 j2).trans (Cert.ReferenceIdeal.simsArr_apply _ _ j0 j1 j2).symm

end Cert.Equation

end
-- ==== Proof.lean ====
/-
  The certificate's claims, assembled: the three programs' frames, the idealization, and the equality of the kernel's
  result with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel, at its own floats, leaves its arguments as launched and every counter at zero. -/
theorem kernel_frame : Cert.quiescent_Kernel := fun m g _ =>
  (θ_run _ _ _).mono (fun _ h => ⟨fun c => (h.1 c).2, h.2⟩) (Cert.Kernel.run_value m g)

/-- So does the kernel read over the extended reals. -/
theorem kernelIdeal_frame : Cert.quiescent_KernelIdeal := fun m g _ =>
  (θ_run _ _ _).mono (fun _ h => ⟨fun c => (h.1 c).2, h.2⟩) (Cert.KernelIdeal.run_value m g)

/-- So does the reference. -/
theorem reference_frame : Cert.quiescent_ReferenceIdeal := fun m g _ =>
  (θ_run _ _ _).mono (fun _ h => ⟨fun c => (h.1 c).2, h.2⟩) (Cert.ReferenceIdeal.run_value m g)

/-- From equal arguments the kernel and the reference end with equal results over the extended reals. -/
theorem same_result : Cert.algebraic_KernelIdeal_ReferenceIdeal := fun m g m' g' _ hagree =>
  ⟨fun c => Cert.Kernel.result (F := Ideal) m c,
    (θ_run _ _ _).mono (fun _ h => h.1) (Cert.KernelIdeal.run_value m g),
    (θ_run _ _ _).mono (fun _ h c => ⟨(h.1 c).1.trans
      ((congrArg₂ Cert.ReferenceIdeal.simsArr (hagree c).1 (hagree c).2.2).trans (Cert.Equation.result_eq m c).symm), (h.1 c).2⟩)
      (Cert.ReferenceIdeal.run_value m' g')⟩

/-- All five claims together. -/
theorem claim : Cert.Claim := ⟨Cert.Kernel.Gen.facts, Cert.KernelIdeal.Gen.facts, Cert.ReferenceIdeal.Gen.facts,
  kernel_frame, kernelIdeal_frame, reference_frame, trivial, same_result⟩

end Cert.Proof

end
